-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ preserves_Kernel_KernelIdeal
    ∧ algebraic_KernelIdeal_ReferenceIdeal_pre_finite_qk (hKernelIdeal := hKernelIdeal) (hReferenceIdeal := hReferenceIdeal) (hPre_finite_qk := hPre_finite_qk)
-- ==== Pre_finite_qk.lean ====
abbrev S4096x1024 : Shape := ⟨2, ![4096, 1024]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x1024 .f32) (main_arg1 : FVec F S4096x256 .f32) (main_arg2 : FVec F S4096x256 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x1024 : Shape := ⟨2, ![4096, 1024]⟩
abbrev S4096x256 : Shape := ⟨2, ![4096, 256]⟩
abbrev S1024x1024 : Shape := ⟨2, ![1024, 1024]⟩
abbrev S1024x256 : Shape := ⟨2, ![1024, 256]⟩
abbrev S256x128 : Shape := ⟨2, ![256, 128]⟩
abbrev S128x128 : Shape := ⟨2, ![128, 128]⟩
abbrev S256x64 : Shape := ⟨2, ![256, 64]⟩
abbrev S128x64 : Shape := ⟨2, ![128, 64]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S4096x1024 : Shape := ⟨2, ![4096, 1024]⟩
abbrev S4096x256 : Shape := ⟨2, ![4096, 256]⟩
abbrev S16x256x16x64 : Shape := ⟨4, ![16, 256, 16, 64]⟩
abbrev S16x16x256x64 : Shape := ⟨4, ![16, 16, 256, 64]⟩
abbrev S16x256x4x64 : Shape := ⟨4, ![16, 256, 4, 64]⟩
abbrev S16x256x4x4x64 : Shape := ⟨5, ![16, 256, 4, 4, 64]⟩
abbrev S16x16x256x256 : Shape := ⟨4, ![16, 16, 256, 256]⟩
abbrev S_ : Shape := ⟨0, ![]⟩
abbrev S256x256 : Shape := ⟨2, ![256, 256]⟩
abbrev S1x1x256x256 : Shape := ⟨4, ![1, 1, 256, 256]⟩
abbrev S16x16x256 : Shape := ⟨3, ![16, 16, 256]⟩
abbrev S16x16x256x1 : Shape := ⟨4, ![16, 16, 256, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S16x256x16x64, .f32⟩
  | .hbm, ⟨4, _⟩ => ⟨S16x16x256x64, .f32⟩
  | .hbm, ⟨5, _⟩ => ⟨S16x256x4x64, .f32⟩
  | .hbm, ⟨6, _⟩ => ⟨S16x256x4x64, .f32⟩
  | .hbm, ⟨7, _⟩ => ⟨S16x256x4x4x64, .f32⟩
  | .hbm, ⟨8, _⟩ => ⟨S16x256x16x64, .f32⟩
  | .hbm, ⟨9, _⟩ => ⟨S16x16x256x64, .f32⟩
  | .hbm, ⟨10, _⟩ => ⟨S16x256x4x4x64, .f32⟩
  | .hbm, ⟨11, _⟩ => ⟨S16x256x16x64, .f32⟩
  | .hbm, ⟨12, _⟩ => ⟨S16x16x256x64, .f32⟩
  | .hbm, ⟨13, _⟩ => ⟨S16x16x256x256, .f32⟩
  | .hbm, ⟨14, _⟩ => ⟨S_, .f32⟩
  | .hbm, ⟨15, _⟩ => ⟨S16x16x256x256, .f32⟩
  | .hbm, ⟨16, _⟩ => ⟨S16x16x256x256, .f32⟩
  | .hbm, ⟨17, _⟩ => ⟨S_, .i1⟩
  | .hbm, ⟨18, _⟩ => ⟨S256x256, .i1⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S256x256, .i32⟩
  | .hbm, ⟨24, _⟩ => ⟨S256x256, .i1⟩
  | .hbm, ⟨25, _⟩ => ⟨S_, .i1⟩
  | .hbm, ⟨26, _⟩ => ⟨S256x256, .i1⟩
  | .hbm, ⟨27, _⟩ => ⟨S256x256, .i1⟩
  | .hbm, ⟨28, _⟩ => ⟨S1x1x256x256, .i1⟩
  | .hbm, ⟨29, _⟩ => ⟨S_, .f32⟩
  | .hbm, ⟨30, _⟩ => ⟨S_, .f32⟩
  | .hbm, ⟨31, _⟩ => ⟨S16x16x256x256, .i1⟩
  | .hbm, ⟨32, _⟩ => ⟨S16x16x256x256, .f32⟩
  | .hbm, ⟨33, _⟩ => ⟨S16x16x256x256, .f32⟩
  | .hbm, ⟨34, _⟩ => ⟨S_, .f32⟩
  | .hbm, ⟨35, _⟩ => ⟨S16x16x256, .f32⟩
  | .hbm, ⟨36, _⟩ => ⟨S_, .f32⟩
  | .hbm, ⟨37, _⟩ => ⟨S16x16x256, .f32⟩
  | .hbm, ⟨38, _⟩ => ⟨S16x16x256, .f32⟩
  | .hbm, ⟨39, _⟩ => ⟨S16x16x256x1, .f32⟩
  | .hbm, ⟨40, _⟩ => ⟨S16x16x256x256, .f32⟩
  | .hbm, ⟨41, _⟩ => ⟨S16x16x256x256, .f32⟩
  | .hbm, ⟨42, _⟩ => ⟨S16x16x256x256, .f32⟩
  | .hbm, ⟨43, _⟩ => ⟨S_, .f32⟩
  | .hbm, ⟨44, _⟩ => ⟨S16x16x256, .f32⟩
  | .hbm, ⟨45, _⟩ => ⟨S16x16x256x1, .f32⟩
  | .hbm, ⟨46, _⟩ => ⟨S16x16x256x256, .f32⟩
  | .hbm, ⟨47, _⟩ => ⟨S16x16x256x256, .f32⟩
  | .hbm, ⟨48, _⟩ => ⟨S16x16x256x64, .f32⟩
  | .hbm, ⟨49, _⟩ => ⟨S16x256x16x64, .f32⟩
  | .hbm, ⟨50, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Proof.Softmax.lean ====
module

public import Idealize.ShloMosaic.PureOps.Ideal.Laws

@[expose] public section

noncomputable section

namespace Cert.Attn

open Idealize.ShloMosaic

/-- The scale the kernel multiplies the keys by: one eighth (the inverse root of the width 64), in units of the
    logarithm of two, so that a power of two of the scaled product is an exponential of an eighth of the product. -/
def scale : EReal := (((1 / 8) * (Real.log 2)⁻¹ : ℝ) : EReal)

/-- The weight the kernel gives key `j` on the row whose query is `q`: a power of two, nothing subtracted. -/
def weight (q : Fin 64 → EReal) (K : Fin 256 → Fin 64 → EReal) (j : Fin 256) : EReal :=
  Ideal.exp2 (∑ e, q e * (K j e * scale))

/-- One entry of the kernel's result, row `r` of a segment: the weighted sum of the values up to row `r`, divided by
    the sum of the weights. -/
def attn (q : Fin 64 → EReal) (K : Fin 256 → Fin 64 → EReal) (v : Fin 256 → EReal) (r : Fin 256) : EReal :=
  Ideal.div (∑ j, if j ≤ r then weight q K j * v j else 0) (∑ j, if j ≤ r then weight q K j else 0)

/-- The reference's logit of key `j` on row `r`: an eighth of the product, minus infinity past row `r`. -/
def logit (q : Fin 64 → EReal) (K : Fin 256 → Fin 64 → EReal) (r j : Fin 256) : EReal :=
  if j ≤ r then (∑ e, q e * K j e) * ((1 / 8 : ℝ) : EReal) else ⊥

/-- The row maximum the reference subtracts. -/
def top (l : Fin 256 → EReal) : EReal := max ⊥ (Finset.univ.fold max ⊥ l)

/-- One entry of a softmax-weighted sum as the reference writes it: exponentials with the row maximum subtracted,
    each divided by their sum, times the value. -/
def softmax (l v : Fin 256 → EReal) : EReal :=
  ∑ j, Ideal.div (Ideal.exp (l j - top l)) (∑ x, Ideal.exp (l x - top l)) * v j

/-- The coercion of the reals takes finite sums to finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A nonnegative real factor moves into any finite sum, whatever the terms. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h,
      EReal.right_distrib_of_nonneg_of_ne_top (by exact_mod_cast hc) (EReal.coe_ne_top c), ih]

/-- Division by a nonzero real is multiplication by its inverse. -/
theorem div_coe (x : EReal) {c : ℝ} (hc : c ≠ 0) : Ideal.div x (c : EReal) = x * ((c⁻¹ : ℝ) : EReal) := by
  unfold Ideal.div
  rw [if_neg (by exact_mod_cast hc), EReal.coe_inv]

/-- The maximum of a row in which no logit is infinite and one is real is a real. -/
theorem top_coe (l : Fin 256 → EReal) (r : Fin 256) (hr : l r ≠ ⊥) (h : ∀ j, l j ≠ ⊤) :
    ∃ M : ℝ, top l = (M : EReal) := by
  have lo : ⊥ < top l := lt_max_of_lt_right
    ((Finset.lt_fold_max _).2 (Or.inr ⟨r, Finset.mem_univ r, bot_lt_iff_ne_bot.2 hr⟩))
  have hi : top l < ⊤ := max_lt bot_lt_top
    ((Finset.fold_max_lt _).2 ⟨bot_lt_top, fun j _ => lt_top_iff_ne_top.2 (h j)⟩)
  exact ⟨(top l).toReal, (EReal.coe_toReal hi.ne lo.ne').symm⟩

/-- The kernel's weight on real queries and keys: the exponential of an eighth of the product. -/
theorem weight_coe (q : Fin 64 → ℝ) (K : Fin 256 → Fin 64 → ℝ) (j : Fin 256) :
    weight (fun e => (q e : EReal)) (fun j e => (K j e : EReal)) j
      = ((Real.exp ((∑ e, q e * K j e) * (1 / 8)) : ℝ) : EReal) := by
  have hl : Real.log 2 ≠ 0 := (Real.log_pos one_lt_two).ne'
  have e : (∑ e, (q e : EReal) * ((K j e : EReal) * scale))
      = (((∑ e, q e * K j e) * (1 / 8) * (Real.log 2)⁻¹ : ℝ) : EReal) := by
    rw [mul_assoc, Finset.sum_mul, coe_sum]
    refine Finset.sum_congr rfl fun e _ => ?_
    rw [scale, ← EReal.coe_mul, ← EReal.coe_mul, mul_assoc]
  rw [weight, e, Ideal.exp2_coe]
  refine congrArg _ ((Real.rpow_def_of_pos two_pos _).trans (congrArg Real.exp ?_))
  field_simp

/-- The reference's logit on real queries and keys. -/
theorem logit_coe (q : Fin 64 → ℝ) (K : Fin 256 → Fin 64 → ℝ) (r j : Fin 256) :
    logit (fun e => (q e : EReal)) (fun j e => (K j e : EReal)) r j
      = if j ≤ r then (((∑ e, q e * K j e) * (1 / 8) : ℝ) : EReal) else ⊥ := by
  unfold logit
  rw [EReal.coe_mul, coe_sum]
  simp only [EReal.coe_mul]

/-- THE EQUATION of one entry: on real logits, masked past row `r`, dividing the weighted sum by the sum of plain
    exponentials is the softmax-weighted sum with the row maximum subtracted. The values may be anything. -/
theorem masked_eq (L : Fin 256 → ℝ) (v : Fin 256 → EReal) (r : Fin 256) :
    Ideal.div (∑ j, if j ≤ r then ((Real.exp (L j) : ℝ) : EReal) * v j else 0)
        (∑ j, if j ≤ r then ((Real.exp (L j) : ℝ) : EReal) else 0)
      = softmax (fun j => if j ≤ r then (L j : EReal) else ⊥) v := by
  obtain ⟨M, hM⟩ := top_coe (fun j => if j ≤ r then (L j : EReal) else ⊥) r
    (by simp) (fun j => by split <;> simp)
  have a_nn : ∀ j, 0 ≤ (if j ≤ r then Real.exp (L j) else 0) := fun j => by split <;> positivity
  have D_pos : 0 < ∑ j, if j ≤ r then Real.exp (L j) else 0 :=
    Finset.sum_pos' (fun j _ => a_nn j) ⟨r, Finset.mem_univ r, by rw [if_pos le_rfl]; positivity⟩
  have ex : ∀ j, Ideal.exp ((if j ≤ r then (L j : EReal) else ⊥) - (M : EReal))
      = (((if j ≤ r then Real.exp (L j) else 0) * Real.exp (-M) : ℝ) : EReal) := fun j => by
    split
    · rw [← EReal.coe_sub, Ideal.exp_coe, ← Real.exp_add, sub_eq_add_neg]
    · simp
  have wt : ∀ j, (if j ≤ r then ((Real.exp (L j) : ℝ) : EReal) else 0)
      = ((if j ≤ r then Real.exp (L j) else 0 : ℝ) : EReal) := fun j => by split <;> simp
  have wv : ∀ j, (if j ≤ r then ((Real.exp (L j) : ℝ) : EReal) * v j else 0)
      = ((if j ≤ r then Real.exp (L j) else 0 : ℝ) : EReal) * v j := fun j => by split <;> simp
  unfold softmax
  rw [hM]
  simp only [ex, wt, wv]
  obtain ⟨a, ha⟩ : ∃ a : Fin 256 → ℝ, ∀ j, (if j ≤ r then Real.exp (L j) else 0) = a j := ⟨_, fun _ => rfl⟩
  simp only [ha] at D_pos ⊢
  rw [← coe_sum, ← coe_sum, ← Finset.sum_mul, div_coe _ D_pos.ne', sum_mul_coe _ _ (inv_nonneg.2 D_pos.le)]
  refine Finset.sum_congr rfl fun j _ => ?_
  rw [div_coe _ (mul_pos D_pos (Real.exp_pos _)).ne', ← EReal.coe_mul, mul_right_comm, ← EReal.coe_mul]
  congr 2
  field_simp

/-- On real queries and keys the kernel's entry is the reference's. -/
theorem attn_eq_softmax (q : Fin 64 → EReal) (K : Fin 256 → Fin 64 → EReal) (v : Fin 256 → EReal) (r : Fin 256)
    (hq : ∀ e, ∃ x : ℝ, q e = (x : EReal)) (hK : ∀ j e, ∃ x : ℝ, K j e = (x : EReal)) :
    attn q K v r = softmax (logit q K r) v := by
  choose q' hq using hq
  choose K' hK using hK
  obtain rfl : q = fun e => (q' e : EReal) := funext hq
  obtain rfl : K = fun j e => (K' j e : EReal) := funext fun j => funext (hK j)
  rw [funext (logit_coe q' K' r), ← masked_eq]
  unfold attn
  simp only [weight_coe]

end Cert.Attn

end
-- ==== Proof.Consts.lean ====
module

public import proofs.«01_k».proof.KernelIdeal
public import proofs.«01_k».proof.Proof.Softmax

@[expose] public section

noncomputable section

namespace Cert.Attn

open Idealize.ShloMosaic

/-- The literal `0.125` is one eighth. -/
theorem eighth : Ideal.ofBits .f32 0x3E000000#32 = ((1 / 8 : ℝ) : EReal) := by
  simp [Ideal.ofBits, Ideal.ieee, -EReal.coe_mul]
  norm_num

/-- The literal `-inf` is minus infinity. -/
theorem neg_inf : Ideal.ofBits .f32 0xFF800000#32 = ⊥ := by
  simp [Ideal.ofBits, Ideal.ieee]

/-- The literal `inf` is plus infinity. -/
theorem pos_inf : Ideal.ofBits .f32 0x7F800000#32 = ⊤ := by
  simp [Ideal.ofBits, Ideal.ieee]

/-- The kernel's named constant is the scale. -/
theorem named_scale : Named.named (F := Ideal) (φ := .f32) Cert.KernelIdeal.κ "scale_log2e" 0x3E38AA3B#32 = scale :=
  IdealRules.named_const.ideal_named_scalar _ _ _ _ rfl

end Cert.Attn

end
-- ==== Proof.Finite.lean ====
module

public import proofs.«01_k».proof.Pre_finite_qk
public import proofs.«01_k».proof.Proof.Consts
public import Idealize.ShloMosaic.Lib.ReduceAll
public import Idealize.ShloMosaic.Lib.Pointwise

@[expose] public section

noncomputable section

namespace Cert.Attn

open Idealize.ShloMosaic Cert.Pre_finite_qk

/-- The shape facts the precondition states. -/
theorem finite_facts : Cert.Pre_finite_qk.Facts where
  bcast_S_S4096x1024 := by decide
  reducesTo_S4096x1024_S_d0_1 := by decide
  h_S_ := by decide
  bcast_S_S4096x256 := by decide
  reducesTo_S4096x256_S_d0_1 := by decide

/-- An extended real whose absolute value is below plus infinity is a real. -/
theorem real_of_abs_lt {x : EReal} (h : Ideal.cmp .olt (max x (-x)) (Ideal.ofBits .f32 0x7F800000#32) = 1#1) :
    ∃ r : ℝ, x = (r : EReal) := by
  replace h := (Ideal.cmp_olt_eq_one _ _).1 h
  rw [pos_inf, max_lt_iff] at h
  refine ⟨x.toReal, (EReal.coe_toReal h.1.ne fun e => ?_).symm⟩
  rw [e] at h
  simp at h

/-- THE PRECONDITION READ: every query and every key is a real. -/
theorem finite_read [Cert.Pre_finite_qk.Facts] (q : FVec Ideal S4096x1024 .f32) (k v : FVec Ideal S4096x256 .f32)
    (h : fn (F := Ideal) q k v = fun _ => 1#1) :
    (∀ i, ∃ r : ℝ, q i = (r : EReal)) ∧ ∀ i, ∃ r : ℝ, k i = (r : EReal) := by
  have : Subsingleton S_.Idx := ⟨fun a b => funext fun x => x.elim0⟩
  have e := IntOp.andi_eq_one.1 (congrFun h fun x => x.elim0)
  exact ⟨fun i => real_of_abs_lt (Host.reduce_andi_all _ _ _ _ _ e.1 i),
    fun i => real_of_abs_lt (Host.reduce_andi_all _ _ _ _ _ e.2 i)⟩

end Cert.Attn

end
-- ==== Proof.Head.lean ====
module

public import proofs.«01_k».proof.Proof.Gen.KernelIdeal.Skeleton
public import proofs.«01_k».proof.Proof.Consts
public import Idealize.ShloMosaic.Lib.Pointwise
public import Idealize.ShloMosaic.Lib.StableHlo.Predicate

@[expose] public section

noncomputable section

namespace Cert.Attn

open Idealize.ShloMosaic Cert.KernelIdeal Cert.KernelIdeal.Gen

/-- A select on "row at least column", both small counters, is a choice on their order. -/
theorem select_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  have ea : (BitVec.ofNat 32 a).toNat = a := by rw [BitVec.toNat_ofNat]; omega
  have eb : (BitVec.ofNat 32 b).toNat = b := by rw [BitVec.toNat_ofNat]; omega
  have h := StableHlo.Predicate.sge_iff_toNat (a := BitVec.ofNat 32 a) (b := BitVec.ofNat 32 b) (by omega) (by omega)
  rw [ea, eb] at h
  unfold Scalar.select
  exact if_congr h rfl rfl

/-- A sum over the 256 keys up to row `r`, cut into the two halves of the keys. -/
theorem sum_keys (r : Fin 256) (f : Fin 256 → EReal) :
    (∑ j, if j ≤ r then f j else 0)
      = (∑ x : Fin 128, if (x : ℕ) ≤ r then f ⟨x, by omega⟩ else 0)
        + ∑ x : Fin 128, if 128 + (x : ℕ) ≤ r then f ⟨128 + x, by omega⟩ else 0 :=
  Fin.sum_univ_two_halves 128 128 rfl _

/-- On rows below 128 the sum over the keys up to row `r` is the sum over the first half. -/
theorem sum_keys_low {r : Fin 256} (h : (r : ℕ) < 128) (f : Fin 256 → EReal) :
    (∑ j, if j ≤ r then f j else 0) = ∑ x : Fin 128, if (x : ℕ) ≤ r then f ⟨x, by omega⟩ else 0 := by
  rw [sum_keys, Finset.sum_eq_zero (f := fun x : Fin 128 => if 128 + (x : ℕ) ≤ r then f ⟨128 + x, by omega⟩ else 0)
    (fun x _ => if_neg (by omega)), add_zero]

/-- An entry on rows below 128: both sums run over the first half of the keys. -/
theorem attn_low (q : Fin 64 → EReal) (K : Fin 256 → Fin 64 → EReal) (v : Fin 256 → EReal) {r : Fin 256}
    (h : (r : ℕ) < 128) :
    attn q K v r = Ideal.div
      (∑ x : Fin 128, if (x : ℕ) ≤ r then weight q K ⟨x, by omega⟩ * v ⟨x, by omega⟩ else 0)
      (∑ x : Fin 128, if (x : ℕ) ≤ r then weight q K ⟨x, by omega⟩ else 0) :=
  congrArg₂ Ideal.div (sum_keys_low h fun j => weight q K j * v j) (sum_keys_low h (weight q K))

/-- An entry on any row: both sums, cut into the two halves of the keys. -/
theorem attn_halves (q : Fin 64 → EReal) (K : Fin 256 → Fin 64 → EReal) (v : Fin 256 → EReal) (r : Fin 256) :
    attn q K v r = Ideal.div
      ((∑ x : Fin 128, if (x : ℕ) ≤ r then weight q K ⟨x, by omega⟩ * v ⟨x, by omega⟩ else 0)
        + ∑ x : Fin 128, if 128 + (x : ℕ) ≤ r then weight q K ⟨128 + x, by omega⟩ * v ⟨128 + x, by omega⟩ else 0)
      ((∑ x : Fin 128, if (x : ℕ) ≤ r then weight q K ⟨x, by omega⟩ else 0)
        + ∑ x : Fin 128, if 128 + (x : ℕ) ≤ r then weight q K ⟨128 + x, by omega⟩ else 0) :=
  congrArg₂ Ideal.div (sum_keys r fun j => weight q K j * v j) (sum_keys r (weight q K))

/-- WHAT ONE HEAD OF ONE SEGMENT COMPUTES, from the blocks of its queries, keys and values: row `r`, column `d` is
    the weighted sum of the values' column `d` over the keys up to row `r`, divided by the sum of the weights. The
    kernel computes rows 0 to 127 from the first 128 keys only, the other rows as a sum over two halves of the keys. -/
theorem head_apply (kb vb qb : Vec Ideal S256x64 .f32) (r : Fin 256) (d : Fin 64) :
    k0_pay7 (F := Ideal) kb vb qb (ix2 r d)
      = attn (fun e => qb (ix2 r e)) (fun j e => kb (ix2 j e)) (fun j => vb (ix2 j d)) r := by
  pointwise [k0_pay7, k0_pay2, k0_pay3, k0_pay4, k0_pay5, k0_pay6, named_scale]
  have hr := r.isLt
  by_cases h : (r : ℕ) < 128
  · refine Eq.trans (congrArg₂ Ideal.div ?_ ?_) (attn_low _ _ _ h).symm
    all_goals
      refine (dif_pos h).trans (Finset.sum_congr rfl fun x _ => ?_)
      exact select_sge _ _ (by omega) (by omega) _ _
  · have e : 128 + ((r : ℕ) - 128) = r := by omega
    refine Eq.trans (congrArg₂ Ideal.div ?_ ?_) (attn_halves _ _ _ r).symm
    all_goals
      refine (dif_neg h).trans (congrArg₂ (· + ·) ?_ ?_)
      all_goals
        refine Finset.sum_congr rfl fun x _ => (select_sge _ _ (by omega) (by omega) _ _).trans ?_
        simp only [e]
        refine if_congr (by omega) rfl rfl

end Cert.Attn

end
-- ==== Proof.Entry.lean ====
module

public import proofs.«01_k».proof.Proof.Softmax
public import Idealize.ShloMosaic.Lib.Pointwise

@[expose] public section

noncomputable section

namespace Cert.Attn

open Idealize.ShloMosaic

/-- The query row token `t`, column `c` of the result reads: the 64 columns of the head `c / 64`. -/
def qRow {n : ℕ} (q : (⟨2, ![n, 1024]⟩ : Shape).Idx → EReal) (t : Fin n) (c : Fin 1024) (e : Fin 64) : EReal :=
  q (ix2 t ⟨c / 64 * 64 + e, by omega⟩)

/-- The keys it reads: the 256 tokens of the segment `t / 256`, the 64 columns of the key head `c / 64 / 4`. -/
def kRows {n : ℕ} (hn : 256 ∣ n) (k : (⟨2, ![n, 256]⟩ : Shape).Idx → EReal) (t : Fin n) (c : Fin 1024)
    (j : Fin 256) (e : Fin 64) : EReal :=
  k (ix2 ⟨t / 256 * 256 + j, by omega⟩ ⟨c / 64 / 4 * 64 + e, by omega⟩)

/-- The values it reads: the 256 tokens of the segment, one column of the value head. -/
def vCol {n : ℕ} (hn : 256 ∣ n) (v : (⟨2, ![n, 256]⟩ : Shape).Idx → EReal) (t : Fin n) (c : Fin 1024)
    (j : Fin 256) : EReal :=
  v (ix2 ⟨t / 256 * 256 + j, by omega⟩ ⟨c / 64 / 4 * 64 + c % 64, by omega⟩)

/-- The row of token `t` in its segment. -/
def segRow {n : ℕ} (t : Fin n) : Fin 256 := ⟨t % 256, Nat.mod_lt _ (by norm_num)⟩

/-- What the kernel writes at token `t`, column `c`, of arrays of `n` tokens (a whole number of segments). -/
def entry {n : ℕ} (hn : 256 ∣ n) (q : (⟨2, ![n, 1024]⟩ : Shape).Idx → EReal)
    (k v : (⟨2, ![n, 256]⟩ : Shape).Idx → EReal) (t : Fin n) (c : Fin 1024) : EReal :=
  attn (qRow q t c) (kRows hn k t c) (vCol hn v t c) (segRow t)

/-- An index of a two-axis array is known by the values of its coordinates. -/
theorem ix2_of {n0 n1 : ℕ} (i : (⟨2, ![n0, n1]⟩ : Shape).Idx) (a : Fin n0) (b : Fin n1)
    (h0 : ((i 0).val : ℕ) = a) (h1 : ((i 1).val : ℕ) = b) : i = ix2 a b := by
  rw [eq_ix2 i]
  exact congrArg₂ ix2 (Fin.ext h0) (Fin.ext h1)

end Cert.Attn

end
-- ==== Proof.Block.lean ====
module

public import proofs.«01_k».proof.Proof.Gen.KernelIdeal.Frame
public import proofs.«01_k».proof.Proof.Head
public import proofs.«01_k».proof.Proof.Entry
public import Idealize.ShloMosaic.Lib.Pipeline.ValueKit.Tiles

@[expose] public section

noncomputable section

namespace Cert.Attn

open Idealize.ShloMosaic Cert.KernelIdeal Cert.KernelIdeal.Gen

/-- ONE STORE. The head computation on the tiles at token offset `o` (a segment's first token) and query column
    offset `p` (a head's first column), read at the tile index of `y`, is the entry at `y`. -/
theorem piece_value (x0 : Vec Ideal S1024x1024 .f32) (x1 x2 : Vec Ideal S1024x256 .f32) (y : S1024x1024.Idx)
    (x : S256x64.Idx) (o p : ℕ) (h0 : ((y 0).val : ℕ) = o + (x 0).val) (h1 : ((y 1).val : ℕ) = p + (x 1).val)
    (ho : 256 ∣ o) (hp : 64 ∣ p)
    (iq : ∀ a, (![o, p] : Fin 2 → ℕ) a + S256x64.size a ≤ S1024x1024.size a)
    (ik : ∀ a, (![o, p / 64 / 4 * 64] : Fin 2 → ℕ) a + S256x64.size a ≤ S1024x256.size a) :
    k0_pay7 (F := Ideal) (View.ld x1 (Rect.unit (s := S1024x256) ![o, p / 64 / 4 * 64] S256x64.size ik))
        (View.ld x2 (Rect.unit (s := S1024x256) ![o, p / 64 / 4 * 64] S256x64.size ik))
        (View.ld x0 (Rect.unit (s := S1024x1024) ![o, p] S256x64.size iq)) x
      = entry (n := 1024) (by norm_num) x0 x1 x2 (y 0) (y 1) := by
  have hx0 : (x 0).val < 256 := (x 0).isLt
  have hx1 : (x 1).val < 64 := (x 1).isLt
  rw [eq_ix2 x]
  refine (head_apply _ _ _ (x 0) (x 1)).trans ?_
  have er : x 0 = segRow (y 0) := Fin.ext (show (x 0).val = (y 0).val % 256 by omega)
  refine congr (congr (congrArg₂ attn ?_ ?_) ?_) er
  · funext e
    exact View.ld_unit_apply_of _ _ _ _ _ _ fun a => match a with
      | ⟨0, _⟩ => h0
      | ⟨1, _⟩ => show (y 1).val / 64 * 64 + e.val = p + e.val by omega
  · funext j e
    exact View.ld_unit_apply_of _ _ _ _ _ _ fun a => match a with
      | ⟨0, _⟩ => show (y 0).val / 256 * 256 + j.val = o + j.val by omega
      | ⟨1, _⟩ => show (y 1).val / 64 / 4 * 64 + e.val = p / 64 / 4 * 64 + e.val by omega
  · funext j
    exact View.ld_unit_apply_of _ _ _ _ _ _ fun a => match a with
      | ⟨0, _⟩ => show (y 0).val / 256 * 256 + j.val = o + j.val by omega
      | ⟨1, _⟩ => show (y 1).val / 64 / 4 * 64 + (y 1).val % 64 = p / 64 / 4 * 64 + (x 1).val by omega

/-- WHAT ONE GRID POINT COMPUTES: its block of the result holds, at every index, the entry of its three input blocks.
    Each of the 64 stores is `piece_value` at its own tile. -/
theorem block_apply (x0 : Vec Ideal S1024x1024 .f32) (x1 x2 : Vec Ideal S1024x256 .f32) (y : S1024x1024.Idx) :
    out0_3 (F := Ideal) x0 x1 x2 y = entry (n := 1024) (by norm_num) x0 x1 x2 (y 0) (y 1) := by
  canon_tiles x h
  all_goals
    have g0 := h0.trans (Nat.zero_add _).symm
    have g1 := h1.trans (Nat.zero_add _).symm
    first
    | exact Eq.trans (by rfl) (piece_value x0 x1 x2 y x _ _ h0 h1 (by norm_num) (by norm_num) _ _)
    | exact Eq.trans (by rfl) (piece_value x0 x1 x2 y x 0 _ g0 h1 (by norm_num) (by norm_num) _ _)
    | exact Eq.trans (by rfl) (piece_value x0 x1 x2 y x _ 0 h0 g1 (by norm_num) (by norm_num) _ _)
    | exact Eq.trans (by rfl) (piece_value x0 x1 x2 y x 0 0 g0 g1 (by norm_num) (by norm_num) _ _)

end Cert.Attn

end
-- ==== Proof.Array.lean ====
module

public import proofs.«01_k».proof.Proof.Gen.KernelIdeal.Value
public import proofs.«01_k».proof.Proof.Block

@[expose] public section

noncomputable section

namespace Cert.Attn

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The whole result of device `c`: at every token and column the entry of its three argument arrays. -/
def result (c : Dev nD) : Buf (Elt Ideal) ((c : Thread nD τ).loc main_v0) := fun i : S4096x1024.Idx =>
  entry (n := 4096) (by norm_num) (m ((c : Thread nD τ).loc main_arg0)) (m ((c : Thread nD τ).loc main_arg1))
    (m ((c : Thread nD τ).loc main_arg2)) (i 0) (i 1)

/-- Where each window's block at grid point `t` starts: token `1024 t`, column 0. -/
theorem starts (t : Fin cfg0.N) :
    (win0_0.index t 0 * win0_0.size 0 = t.val * 1024 ∧ win0_0.index t 1 * win0_0.size 1 = 0)
    ∧ (win0_1.index t 0 * win0_1.size 0 = t.val * 1024 ∧ win0_1.index t 1 * win0_1.size 1 = 0)
    ∧ (win0_2.index t 0 * win0_2.size 0 = t.val * 1024 ∧ win0_2.index t 1 * win0_2.size 1 = 0)
    ∧ (win0_3.index t 0 * win0_3.size 0 = t.val * 1024 ∧ win0_3.index t 1 * win0_3.size 1 = 0)
    ∧ win0_3.xsize (grid0.coords t) 0 = 1024 ∧ win0_3.xsize (grid0.coords t) 1 = 1024 := by
  rcases fin_N0 t with rfl | rfl | rfl | rfl <;> decide +kernel

/-- An index of the result array is in grid point `t`'s block when its token is one of the 1024 from `1024 t` on. -/
theorem mem_blk (t : Fin cfg0.N) (i : S4096x1024.Idx) :
    i ∈ ((cfg0.win 3).blk t).view.set ↔ t.val * 1024 ≤ (i 0 : Nat) ∧ (i 0 : Nat) < t.val * 1024 + 1024 := by
  show i ∈ ((View.whole main_v0).slice (win0_3.rect t)).set ↔ _
  rw [View.set_slice_whole, Rect.mem_set_unit]
  have h1 : (i 1 : Nat) < 1024 := (i 1).isLt
  obtain ⟨-, -, -, ⟨e0, e1⟩, s0, s1⟩ := starts t
  refine ⟨fun h => ?_, fun h a => ?_⟩
  · have : win0_3.index t 0 * win0_3.size 0 ≤ (i 0 : Nat)
        ∧ (i 0 : Nat) < win0_3.index t 0 * win0_3.size 0 + win0_3.xsize (grid0.coords t) 0 := h 0
    rwa [e0, s0] at this
  · match a with
    | ⟨0, _⟩ => show win0_3.index t 0 * win0_3.size 0 ≤ (i 0 : Nat)
                  ∧ (i 0 : Nat) < win0_3.index t 0 * win0_3.size 0 + win0_3.xsize (grid0.coords t) 0
                rw [e0, s0]; exact h
    | ⟨1, _⟩ => show win0_3.index t 1 * win0_3.size 1 ≤ (i 1 : Nat)
                  ∧ (i 1 : Nat) < win0_3.index t 1 * win0_3.size 1 + win0_3.xsize (grid0.coords t) 1
                rw [e1, s1]; omega

/-- The four blocks of 1024 tokens cover the result. -/
theorem cover (i : S4096x1024.Idx) :
    ∃ t : Fin cfg0.N, (cfg0.win 3).flush t = true ∧ i ∈ ((cfg0.win 3).blk t).view.set := by
  have h0 : (i 0 : Nat) < 4096 := (i 0).isLt
  have hN : cfg0.N = 4 := N_0
  refine ⟨⟨(i 0 : Nat) / 1024, by omega⟩, flush0_3 _, ?_⟩
  rw [mem_blk]
  dsimp only
  omega

/-- Grid point `t`'s block of the queries holds the tokens from `1024 t` on. -/
theorem iblk_q (c : Dev nD) (t : Fin cfg0.N) (a b : Fin 1024) (a' : Fin 4096) (ha : (a' : ℕ) = t.val * 1024 + a) :
    iblk m c 0 t (ix2 a b) = m ((c : Thread nD τ).loc main_arg0) (ix2 a' b) := by
  obtain ⟨⟨e0, e1⟩, -⟩ := starts t
  refine congrArg (m ((c : Thread nD τ).loc main_arg0)) (ix2_of _ _ _ ?_ ?_)
  · refine (Rect.idx_unit_val (s := S4096x1024) _ _ _ _ (0 : Fin 2)).trans ?_
    show win0_0.index t 0 * win0_0.size 0 + a.val = a'.val
    omega
  · refine (Rect.idx_unit_val (s := S4096x1024) _ _ _ _ (1 : Fin 2)).trans ?_
    show win0_0.index t 1 * win0_0.size 1 + b.val = b.val
    omega

/-- Grid point `t`'s block of the keys holds the tokens from `1024 t` on. -/
theorem iblk_k (c : Dev nD) (t : Fin cfg0.N) (a : Fin 1024) (b : Fin 256) (a' : Fin 4096) (ha : (a' : ℕ) = t.val * 1024 + a) :
    iblk m c 1 t (ix2 a b) = m ((c : Thread nD τ).loc main_arg1) (ix2 a' b) := by
  obtain ⟨-, ⟨e0, e1⟩, -⟩ := starts t
  refine congrArg (m ((c : Thread nD τ).loc main_arg1)) (ix2_of _ _ _ ?_ ?_)
  · refine (Rect.idx_unit_val (s := S4096x256) _ _ _ _ (0 : Fin 2)).trans ?_
    show win0_1.index t 0 * win0_1.size 0 + a.val = a'.val
    omega
  · refine (Rect.idx_unit_val (s := S4096x256) _ _ _ _ (1 : Fin 2)).trans ?_
    show win0_1.index t 1 * win0_1.size 1 + b.val = b.val
    omega

/-- Grid point `t`'s block of the values holds the tokens from `1024 t` on. -/
theorem iblk_v (c : Dev nD) (t : Fin cfg0.N) (a : Fin 1024) (b : Fin 256) (a' : Fin 4096) (ha : (a' : ℕ) = t.val * 1024 + a) :
    iblk m c 2 t (ix2 a b) = m ((c : Thread nD τ).loc main_arg2) (ix2 a' b) := by
  obtain ⟨-, -, ⟨e0, e1⟩, -⟩ := starts t
  refine congrArg (m ((c : Thread nD τ).loc main_arg2)) (ix2_of _ _ _ ?_ ?_)
  · refine (Rect.idx_unit_val (s := S4096x256) _ _ _ _ (0 : Fin 2)).trans ?_
    show win0_2.index t 0 * win0_2.size 0 + a.val = a'.val
    omega
  · refine (Rect.idx_unit_val (s := S4096x256) _ _ _ _ (1 : Fin 2)).trans ?_
    show win0_2.index t 1 * win0_2.size 1 + b.val = b.val
    omega

/-- An entry of grid point `t`'s three blocks is the entry of the arrays `1024 t` tokens further on: the blocks are
    whole numbers of segments. -/
theorem entry_block (c : Dev nD) (t : Fin cfg0.N) (a b : Fin 1024) (a' : Fin 4096) (ha : (a' : ℕ) = t.val * 1024 + a) :
    entry (n := 1024) (by norm_num) (iblk m c 0 t) (iblk m c 1 t) (iblk m c 2 t) a b
      = entry (n := 4096) (by norm_num) (m ((c : Thread nD τ).loc main_arg0)) (m ((c : Thread nD τ).loc main_arg1))
          (m ((c : Thread nD τ).loc main_arg2)) a' b := by
  have hs : (a' : ℕ) / 256 * 256 = t.val * 1024 + (a : ℕ) / 256 * 256 := by omega
  unfold entry
  refine congr (congr (congrArg₂ attn (funext fun e => ?_) (funext fun j => funext fun e => ?_)) (funext fun j => ?_)) ?_
  · exact iblk_q m c t _ _ _ ha
  · refine iblk_k m c t _ _ _ ?_
    dsimp only
    omega
  · refine iblk_v m c t _ _ _ ?_
    dsimp only
    omega
  · exact Fin.ext (show (a : ℕ) % 256 = (a' : ℕ) % 256 by omega)

/-- A grid point writes back its block of the whole result. -/
theorem flushed_eq (c : Dev nD) (t : Fin cfg0.N) :
    (dats m 0 c).flushed 3 t = (win0_3.blk t).view.read (Elt Ideal) (result m c) := by
  rw [Cert.KernelIdeal.Value.flushed3]
  funext y
  obtain ⟨-, -, -, ⟨e0, e1⟩, -⟩ := starts t
  refine (block_apply _ _ _ _).trans ((entry_block m c t _ _ ((win0_3.rect t).idx y 0) ?_).trans ?_)
  · refine (Rect.idx_unit_val (s := S4096x1024) _ _ _ _ (0 : Fin 2)).trans ?_
    show win0_3.index t 0 * win0_3.size 0 + (y 0).val = t.val * 1024 + (y 0).val
    omega
  · refine congrArg (entry _ _ _ _ _) (Fin.ext (Eq.symm ?_))
    refine (Rect.idx_unit_val (s := S4096x1024) _ _ _ _ (1 : Fin 2)).trans ?_
    show win0_3.index t 1 * win0_3.size 1 + (y 1).val = (y 1).val
    omega

/-- THE KERNEL'S RUN: the result array ends at the whole result, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono
    (fun _ h c => ⟨(h c).1.trans ((dats m 0 c).arrAt_eq_of_cover 3 (result m c) (fun t _ => flushed_eq m c t) cover), (h c).2⟩)
    (Cert.KernelIdeal.Value.run_blocks m ρ)

end Cert.Attn

end
-- ==== Proof.Reference.lean ====
module

public import proofs.«01_k».proof.Proof.Gen.ReferenceIdeal.Read
public import proofs.«01_k».proof.Proof.Head
public import proofs.«01_k».proof.Proof.Entry

@[expose] public section

noncomputable section

namespace Cert.Attn

open Idealize.ShloMosaic Cert.ReferenceIdeal Cert.ReferenceIdeal.Gen Cert.ReferenceIdeal.Read

variable (q : (⟨S4096x1024, .f32⟩ : BufTy).Contents (Elt Ideal)) (k v : (⟨S4096x256, .f32⟩ : BufTy).Contents (Elt Ideal))

/-- The reference's masked logits: segment `s`, head `h`, row `r`, key `j`. -/
theorem ref_logit (s h : Fin 16) (r j : Fin 256) :
    val_main_v16 (F := Ideal) q k (ix4 s h r j)
      = logit (fun e => q (ix2 ⟨s * 256 + r, by omega⟩ ⟨h * 64 + e, by omega⟩))
          (fun j e => k (ix2 ⟨s * 256 + j, by omega⟩ ⟨h / 4 * 64 + e, by omega⟩)) r j := by
  pointwise [val_main_v16, val_main_v12, val_main_v10, val_main_v1, val_main_v0, val_main_v2, val_main_v4, val_main_v5,
    val_main_v6, val_main_cst, val_main_v11, val_main_c, val_main_v13, val_main_call0_v0, val_main_call0_c,
    val_main_call0_v1, val_main_call0_v2, val_main_call0_v3, val_main_call0_v4, val_main_call0_c_0, val_main_call0_v5,
    val_main_v14, val_main_v15, val_main_cst_0, val_main_call1_v0, val_main_call1_v1, val_main_call1_v2]
  rw [show IntOp.addi (BitVec.ofNat 32 (r : ℕ)) 0#32 = BitVec.ofNat 32 (r : ℕ) from BitVec.add_zero _,
    select_sge _ _ (by omega) (by omega), eighth]
  unfold logit
  by_cases hj : (j : ℕ) ≤ r
  · rw [if_pos hj, if_pos (Fin.le_def.2 hj)]
    rfl
  · rw [if_neg hj, if_neg (fun e => hj (Fin.le_def.1 e))]
    exact neg_inf

/-- The row maximum the reference subtracts. -/
theorem ref_top (s h : Fin 16) (r : Fin 256) :
    val_main_v19 (F := Ideal) q k (ix3 s h r) = top fun j => val_main_v16 (F := Ideal) q k (ix4 s h r j) := by
  have e : val_main_v17 (F := Ideal) q k (ix3 s h r)
      = Finset.univ.fold max ⊥ fun j => val_main_v16 (F := Ideal) q k (ix4 s h r j) := by
    pointwise [val_main_v17, val_main_cst_1]
    rw [neg_inf]
  rw [val_main_v19_apply, val_main_v18_apply, val_main_cst_2_apply, e, Ideal.maximumf_def]
  exact congrArg (max · _) neg_inf

/-- The exponential of a logit less the row maximum. -/
theorem ref_exp (s h : Fin 16) (r j : Fin 256) :
    val_main_v23 (F := Ideal) q k (ix4 s h r j)
      = Ideal.exp (val_main_v16 (F := Ideal) q k (ix4 s h r j) - top fun x => val_main_v16 (F := Ideal) q k (ix4 s h r x)) := by
  have e : idx_main_v20 (idx_main_v21 (ix4 s h r j)) = ix3 s h r :=
    funext fun a => match a with | ⟨0, _⟩ => rfl | ⟨1, _⟩ => rfl | ⟨2, _⟩ => rfl
  rw [← ref_top, val_main_v23_apply, val_main_v22_apply, val_main_v21_apply, val_main_v20_apply, e,
    Ideal.hostUnary_exp_def, Ideal.subf_def]

/-- The sum of a row's exponentials. -/
theorem ref_sum (s h : Fin 16) (r j : Fin 256) :
    val_main_v26 (F := Ideal) q k (ix4 s h r j) = ∑ x, val_main_v23 (F := Ideal) q k (ix4 s h r x) := by
  have e (x : Fin 256) : idx_main_v24 (idx_main_v25 (idx_main_v26 (ix4 s h r j))) x = ix4 s h r x :=
    funext fun a => match a with | ⟨0, _⟩ => rfl | ⟨1, _⟩ => rfl | ⟨2, _⟩ => rfl | ⟨3, _⟩ => rfl
  have z : FloatOps.ofBits (F := Ideal) .f32 0#32 = (0 : EReal) := Ideal.ofBits_zero .f32
  rw [val_main_v26_apply, val_main_v25_apply, val_main_v24_apply, val_main_cst_3_apply, z, zero_add]
  simp only [e]

/-- WHAT THE REFERENCE COMPUTES at token `t`, column `c`: the softmax-weighted sum of the value column over the
    masked logits of the token's row. -/
theorem ref_apply (t : Fin 4096) (c : Fin 1024) :
    val_main_v30 (F := Ideal) q k v (ix2 t c)
      = softmax (logit (qRow q t c) (kRows (n := 4096) (by norm_num) k t c) (segRow t))
          (vCol (n := 4096) (by norm_num) v t c) := by
  pointwise [val_main_v30, val_main_v29, val_main_v28, val_main_v9, val_main_v8, val_main_v7, val_main_v3]
  unfold softmax
  refine Finset.sum_congr rfl fun j _ => congrArg₂ (· * ·) ?_ rfl
  rw [val_main_v27_apply, ref_sum]
  simp only [ref_exp, ref_logit]
  have e : logit (qRow q t c) (kRows (n := 4096) (by norm_num) k t c) (segRow t)
      = logit (fun e => q (ix2 ⟨t / 256 * 256 + t % 256, by omega⟩ ⟨c / 64 * 64 + e, by omega⟩))
          (fun j e => k (ix2 ⟨t / 256 * 256 + j, by omega⟩ ⟨c / 64 / 4 * 64 + e, by omega⟩))
          ⟨t % 256, by omega⟩ := by
    refine congr (congrArg₂ logit (funext fun e => congrArg q (congrArg₂ ix2 (Fin.ext ?_) rfl)) rfl) rfl
    dsimp only
    omega
  rw [e]
  rfl

end Cert.Attn

end
-- ==== Proof.Equation.lean ====
module

public import proofs.«01_k».proof.Proof.Array
public import proofs.«01_k».proof.Proof.Reference

@[expose] public section

noncomputable section

namespace Cert.Attn

open Idealize.ShloMosaic Idealize.ShloMosaic.TcCoe Cert.KernelIdeal

/-- THE EQUATION of the whole arrays: where every query and every key is a real, what the kernel's result array holds is
    what the reference computes from the same arguments. -/
theorem result_eq (m : (ℓ : Loc nD τ sig) → Buf (Elt Ideal) ℓ) (c : Dev nD)
    (hq : ∀ i : S4096x1024.Idx, ∃ r : ℝ, m ((c : Thread nD τ).loc main_arg0) i = (r : EReal))
    (hk : ∀ i : S4096x256.Idx, ∃ r : ℝ, m ((c : Thread nD τ).loc main_arg1) i = (r : EReal)) :
    Cert.ReferenceIdeal.Read.val_main_v30 (F := Ideal) (m ((c : Thread nD τ).loc main_arg0))
        (m ((c : Thread nD τ).loc main_arg1)) (m ((c : Thread nD τ).loc main_arg2))
      = result m c := by
  funext (i : S4096x1024.Idx)
  have e := ref_apply (m ((c : Thread nD τ).loc main_arg0)) (m ((c : Thread nD τ).loc main_arg1))
    (m ((c : Thread nD τ).loc main_arg2)) (i 0) (i 1)
  rw [← eq_ix2 i] at e
  exact e.trans (attn_eq_softmax _ _ _ _ (fun _ => hq _) (fun _ _ => hk _)).symm

end Cert.Attn

end
-- ==== Proof.lean ====
/- The certificate's claims, assembled: the frames, the named constant, and the equation of the kernel's result with the
   reference's (Proof/Equation.lean), from what one head computes (Proof/Head.lean), what one grid point's block holds
   (Proof/Block.lean), what the whole array holds (Proof/Array.lean) and what the reference computes
   (Proof/Reference.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Finite
public import proofs.«01_k».proof.Proof.Equation

@[expose] public section

noncomputable section

namespace Cert.Proof

open Idealize.ShloMosaic Idealize.SL.Sem Cert.Kernel

/-- The idealized kernel and the reference, at finite queries and keys, end with equal results, their arguments unchanged. -/
theorem algebraic [Cert.Pre_finite_qk.Facts] : Cert.algebraic_KernelIdeal_ReferenceIdeal_pre_finite_qk :=
  fun m g m' g' pre same => by
    refine ⟨Cert.Attn.result m, Cert.Attn.run m g,
      (θ_run Cert.ReferenceIdeal.defs _ _).mono (fun r h c => ⟨(h c).1.trans ?_, (h c).2⟩) (Cert.ReferenceIdeal.Value.run m' g')⟩
    obtain ⟨hq, hk⟩ := Cert.Attn.finite_read _ _ _ (pre c)
    obtain ⟨e0, e1, e2⟩ := same c
    rw [Cert.ReferenceIdeal.Read.val_main_v30_eq, e0, e1, e2]
    exact Cert.Attn.result_eq m c hq hk

/-- The reference runs, its arguments unchanged, and ends with every counter at zero: it declares none. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run m g)

/-- All the claims: the kernel and the idealized kernel by their frames, the reference by its run, the idealization by
    its one rule, and the values by the equation. -/
theorem claim : Cert.Claim :=
  ⟨Cert.Kernel.Gen.facts, Cert.KernelIdeal.Gen.facts, Cert.ReferenceIdeal.Gen.facts, Cert.Attn.finite_facts,
    fun m g _ => Cert.Kernel.Gen.frame m g,
    fun m g _ => Cert.KernelIdeal.Gen.frame m g,
    fun m g _ => Cert.KernelIdeal.Gen.frame m g,
    frame_reference,
    fun m g _ => frame_reference m g trivial,
    IdealRules.named_const.statement Cert.KernelIdeal.κ "scale_log2e" .f32 0x3E38AA3B#32 _ rfl,
    @algebraic Cert.Attn.finite_facts⟩

end Cert.Proof

end
